-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1x2048x2048 : Shape := ⟨4, ![8, 1, 2048, 2048]⟩
abbrev S_ : Shape := ⟨0, ![]⟩

class Facts : Prop where
  bcast_S_S8x1x2048x2048 : S_.BroadcastsInDim S8x1x2048x2048 (![] : Fin 0 → Fin S8x1x2048x2048.rank)
  reducesTo_S8x1x2048x2048_S_d0_1_2_3 : S8x1x2048x2048.ReducesTo [0, 1, 2, 3] S_
  h_S_ : 0 < S_.numel

variable [Facts]

def fn {F : FTy → Type} [FloatOps F] (main_arg0 : FVec F S8x1x2048x2048 .f32) (main_arg1 : FVec F S8x1x2048x2048 .f32) : IVec S_ 1 :=
  let main_v0 : FVec F S8x1x2048x2048 .f32 := Host.absf main_arg0
  let main_cst : FVec F S_ .f32 := constant S_ .f32 0x7F800000#32
  let main_v1 : FVec F S8x1x2048x2048 .f32 := broadcastInDim S8x1x2048x2048 ![] bcast_S_S8x1x2048x2048 main_cst
  let main_v2 : IVec S8x1x2048x2048 1 := cmpf .olt main_v0 main_v1
  let main_c : IVec S_ 1 := constantI S_ 1 1#1
  let main_v3 : IVec S_ 1 := (fun x v => Host.reduce IntOp.andi x v reducesTo_S8x1x2048x2048_S_d0_1_2_3 h_S_) main_v2 main_c
  let main_v4 : FVec F S8x1x2048x2048 .f32 := Host.absf main_arg1
  let main_cst_0 : FVec F S_ .f32 := constant S_ .f32 0x7F800000#32
  let main_v5 : FVec F S8x1x2048x2048 .f32 := broadcastInDim S8x1x2048x2048 ![] bcast_S_S8x1x2048x2048 main_cst_0
  let main_v6 : IVec S8x1x2048x2048 1 := cmpf .olt main_v4 main_v5
  let main_c_1 : IVec S_ 1 := constantI S_ 1 1#1
  let main_v7 : IVec S_ 1 := (fun x v => Host.reduce IntOp.andi x v reducesTo_S8x1x2048x2048_S_d0_1_2_3 h_S_) main_v6 main_c_1
  let main_v8 : IVec S_ 1 := andi main_v3 main_v7
  main_v8
-- ==== Kernel.lean ====
abbrev S8x1x2048x2048 : Shape := ⟨4, ![8, 1, 2048, 2048]⟩
abbrev S8x1x512 : Shape := ⟨3, ![8, 1, 512]⟩
abbrev S1x1x2048x512 : Shape := ⟨4, ![1, 1, 2048, 512]⟩
abbrev S1x1x128 : Shape := ⟨3, ![1, 1, 128]⟩
abbrev S32x512 : Shape := ⟨2, ![32, 512]⟩
abbrev S1x1x48x512 : Shape := ⟨4, ![1, 1, 48, 512]⟩
abbrev S48x512 : Shape := ⟨2, ![48, 512]⟩
abbrev S1x1x40x512 : Shape := ⟨4, ![1, 1, 40, 512]⟩
abbrev S40x512 : Shape := ⟨2, ![40, 512]⟩
abbrev S27x512 : Shape := ⟨2, ![27, 512]⟩
abbrev S1x512 : Shape := ⟨2, ![1, 512]⟩
abbrev S1x1x512 : Shape := ⟨3, ![1, 1, 512]⟩
abbrev S1 : Shape := ⟨1, ![1]⟩
abbrev S1x1x1 : Shape := ⟨3, ![1, 1, 1]⟩
abbrev S1x32x512 : Shape := ⟨3, ![1, 32, 512]⟩
abbrev S1x27x512 : Shape := ⟨3, ![1, 27, 512]⟩
abbrev S128 : Shape := ⟨1, ![128]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S8x1x2048x2048, .f32⟩
  | .hbm, ⟨1, _⟩ => ⟨S8x1x2048x2048, .f32⟩
  | .hbm, ⟨2, _⟩ => ⟨S8x1x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1x2048x512, .f32⟩
  | .local _ .vmem, ⟨1, _⟩ => ⟨S1x1x2048x512, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x128, .f32⟩
  | .local _ .vmem, ⟨5, _⟩ => ⟨S1x1x128, .f32⟩
  | _, _ => ⟨S8x1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c1_i32 : BitVec 32 := 1#32
  let c62_i32 : BitVec 32 := 62#32
  let v1 : BitVec 32 := Scalar.addi c1_i32 c62_i32
  let c1_i32_0 : BitVec 32 := 1#32
  ⟨c1_i32, v1, c1_i32_0⟩
def k0_off1 (k0_t1 : Fin k0_t1_loop.trips) : Fin 4 → Nat :=
  let c0_54 : Index := 0#32
  let c0_55 : Index := 0#32
  let c4_i32 : BitVec 32 := 4#32
  let c1_i32 : BitVec 32 := 1#32
  let c1_i32_0 : BitVec 32 := 1#32
  let arg5 : BitVec 32 := Scf.iv c1_i32 c1_i32_0 k0_t1
  let v203 : BitVec 32 := Scalar.muli c4_i32 arg5
  let c1_i32_53 : BitVec 32 := 1#32
  let v204 : BitVec 32 := Scalar.subi v203 c1_i32_53
  let c8_i32 : BitVec 32 := 8#32
  let v205 : BitVec 32 := Scalar.muli v204 c8_i32
  let v206 : Index := Scalar.indexCast v205
  let c0_56 : Index := 0#32
  ![0, 0, v206.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x1x2048x2048 : Shape := ⟨4, ![8, 1, 2048, 2048]⟩
abbrev S_ : Shape := ⟨0, ![]⟩
abbrev S8x3x2050x2048 : Shape := ⟨4, ![8, 3, 2050, 2048]⟩
abbrev S8x1x2038x2038 : Shape := ⟨4, ![8, 1, 2038, 2038]⟩
abbrev S8x2038x2038 : Shape := ⟨3, ![8, 2038, 2038]⟩
abbrev S8 : Shape := ⟨1, ![8]⟩

abbrev nBuf : Space → Nat
  | .hbm => 283
  | .vmem => 0
  | .smem => 0
  | _ => 0

abbrev hbmTy0_0 (i : Nat) : BufTy := match i % 128 with
  | 0 => ⟨S8x1x2048x2048, .f32⟩
  | 1 => ⟨S8x1x2048x2048, .f32⟩
  | 2 => ⟨S_, .i32⟩
  | 3 => ⟨S_, .f32⟩
  | 4 => ⟨S8x3x2050x2048, .f32⟩
  | 5 => ⟨S_, .f32⟩
  | 6 => ⟨S8x1x2048x2048, .f32⟩
  | 7 => ⟨S8x1x2048x2048, .f32⟩
  | 8 => ⟨S_, .f32⟩
  | 9 => ⟨S8x1x2048x2048, .f32⟩
  | 10 => ⟨S8x1x2048x2048, .f32⟩
  | 11 => ⟨S8x1x2048x2048, .f32⟩
  | 12 => ⟨S8x1x2048x2048, .f32⟩
  | 13 => ⟨S_, .f32⟩
  | 14 => ⟨S8x1x2048x2048, .f32⟩
  | 15 => ⟨S8x1x2048x2048, .f32⟩
  | 16 => ⟨S8x1x2048x2048, .f32⟩
  | 17 => ⟨S8x1x2048x2048, .f32⟩
  | 18 => ⟨S_, .f32⟩
  | 19 => ⟨S8x1x2048x2048, .f32⟩
  | 20 => ⟨S8x1x2048x2048, .f32⟩
  | 21 => ⟨S8x1x2048x2048, .f32⟩
  | 22 => ⟨S8x1x2048x2048, .f32⟩
  | 23 => ⟨S_, .f32⟩
  | 24 => ⟨S8x1x2048x2048, .f32⟩
  | 25 => ⟨S8x1x2048x2048, .f32⟩
  | 26 => ⟨S8x1x2048x2048, .f32⟩
  | 27 => ⟨S8x1x2048x2048, .f32⟩
  | 28 => ⟨S_, .f32⟩
  | 29 => ⟨S8x1x2048x2048, .f32⟩
  | 30 => ⟨S8x1x2048x2048, .f32⟩
  | 31 => ⟨S8x1x2048x2048, .f32⟩
  | 32 => ⟨S8x1x2048x2048, .f32⟩
  | 33 => ⟨S_, .f32⟩
  | 34 => ⟨S8x1x2048x2048, .f32⟩
  | 35 => ⟨S8x1x2048x2048, .f32⟩
  | 36 => ⟨S8x1x2048x2048, .f32⟩
  | 37 => ⟨S8x1x2048x2048, .f32⟩
  | 38 => ⟨S_, .f32⟩
  | 39 => ⟨S8x1x2048x2048, .f32⟩
  | 40 => ⟨S8x1x2048x2048, .f32⟩
  | 41 => ⟨S8x1x2048x2048, .f32⟩
  | 42 => ⟨S8x1x2048x2048, .f32⟩
  | 43 => ⟨S_, .f32⟩
  | 44 => ⟨S8x1x2048x2048, .f32⟩
  | 45 => ⟨S8x1x2048x2048, .f32⟩
  | 46 => ⟨S8x1x2048x2048, .f32⟩
  | 47 => ⟨S8x1x2048x2048, .f32⟩
  | 48 => ⟨S_, .f32⟩
  | 49 => ⟨S8x1x2048x2048, .f32⟩
  | 50 => ⟨S8x1x2048x2048, .f32⟩
  | 51 => ⟨S8x1x2048x2048, .f32⟩
  | 52 => ⟨S8x1x2038x2038, .f32⟩
  | 53 => ⟨S8x2038x2038, .f32⟩
  | 54 => ⟨S_, .i32⟩
  | 55 => ⟨S_, .f32⟩
  | 56 => ⟨S8x3x2050x2048, .f32⟩
  | 57 => ⟨S_, .f32⟩
  | 58 => ⟨S8x1x2048x2048, .f32⟩
  | 59 => ⟨S8x1x2048x2048, .f32⟩
  | 60 => ⟨S_, .f32⟩
  | 61 => ⟨S8x1x2048x2048, .f32⟩
  | 62 => ⟨S8x1x2048x2048, .f32⟩
  | 63 => ⟨S8x1x2048x2048, .f32⟩
  | 64 => ⟨S8x1x2048x2048, .f32⟩
  | 65 => ⟨S_, .f32⟩
  | 66 => ⟨S8x1x2048x2048, .f32⟩
  | 67 => ⟨S8x1x2048x2048, .f32⟩
  | 68 => ⟨S8x1x2048x2048, .f32⟩
  | 69 => ⟨S8x1x2048x2048, .f32⟩
  | 70 => ⟨S_, .f32⟩
  | 71 => ⟨S8x1x2048x2048, .f32⟩
  | 72 => ⟨S8x1x2048x2048, .f32⟩
  | 73 => ⟨S8x1x2048x2048, .f32⟩
  | 74 => ⟨S8x1x2048x2048, .f32⟩
  | 75 => ⟨S_, .f32⟩
  | 76 => ⟨S8x1x2048x2048, .f32⟩
  | 77 => ⟨S8x1x2048x2048, .f32⟩
  | 78 => ⟨S8x1x2048x2048, .f32⟩
  | 79 => ⟨S8x1x2048x2048, .f32⟩
  | 80 => ⟨S_, .f32⟩
  | 81 => ⟨S8x1x2048x2048, .f32⟩
  | 82 => ⟨S8x1x2048x2048, .f32⟩
  | 83 => ⟨S8x1x2048x2048, .f32⟩
  | 84 => ⟨S8x1x2048x2048, .f32⟩
  | 85 => ⟨S_, .f32⟩
  | 86 => ⟨S8x1x2048x2048, .f32⟩
  | 87 => ⟨S8x1x2048x2048, .f32⟩
  | 88 => ⟨S8x1x2048x2048, .f32⟩
  | 89 => ⟨S8x1x2048x2048, .f32⟩
  | 90 => ⟨S_, .f32⟩
  | 91 => ⟨S8x1x2048x2048, .f32⟩
  | 92 => ⟨S8x1x2048x2048, .f32⟩
  | 93 => ⟨S8x1x2048x2048, .f32⟩
  | 94 => ⟨S8x1x2048x2048, .f32⟩
  | 95 => ⟨S_, .f32⟩
  | 96 => ⟨S8x1x2048x2048, .f32⟩
  | 97 => ⟨S8x1x2048x2048, .f32⟩
  | 98 => ⟨S8x1x2048x2048, .f32⟩
  | 99 => ⟨S8x1x2048x2048, .f32⟩
  | 100 => ⟨S_, .f32⟩
  | 101 => ⟨S8x1x2048x2048, .f32⟩
  | 102 => ⟨S8x1x2048x2048, .f32⟩
  | 103 => ⟨S8x1x2048x2048, .f32⟩
  | 104 => ⟨S8x1x2038x2038, .f32⟩
  | 105 => ⟨S8x2038x2038, .f32⟩
  | 106 => ⟨S8x1x2048x2048, .f32⟩
  | 107 => ⟨S_, .i32⟩
  | 108 => ⟨S_, .f32⟩
  | 109 => ⟨S8x3x2050x2048, .f32⟩
  | 110 => ⟨S_, .f32⟩
  | 111 => ⟨S8x1x2048x2048, .f32⟩
  | 112 => ⟨S8x1x2048x2048, .f32⟩
  | 113 => ⟨S_, .f32⟩
  | 114 => ⟨S8x1x2048x2048, .f32⟩
  | 115 => ⟨S8x1x2048x2048, .f32⟩
  | 116 => ⟨S8x1x2048x2048, .f32⟩
  | 117 => ⟨S8x1x2048x2048, .f32⟩
  | 118 => ⟨S_, .f32⟩
  | 119 => ⟨S8x1x2048x2048, .f32⟩
  | 120 => ⟨S8x1x2048x2048, .f32⟩
  | 121 => ⟨S8x1x2048x2048, .f32⟩
  | 122 => ⟨S8x1x2048x2048, .f32⟩
  | 123 => ⟨S_, .f32⟩
  | 124 => ⟨S8x1x2048x2048, .f32⟩
  | 125 => ⟨S8x1x2048x2048, .f32⟩
  | 126 => ⟨S8x1x2048x2048, .f32⟩
  | 127 => ⟨S8x1x2048x2048, .f32⟩
  | _ => ⟨S8x1x2048x2048, .f32⟩

abbrev hbmTy0_1 (i : Nat) : BufTy := match i % 128 with
  | 0 => ⟨S_, .f32⟩
  | 1 => ⟨S8x1x2048x2048, .f32⟩
  | 2 => ⟨S8x1x2048x2048, .f32⟩
  | 3 => ⟨S8x1x2048x2048, .f32⟩
  | 4 => ⟨S8x1x2048x2048, .f32⟩
  | 5 => ⟨S_, .f32⟩
  | 6 => ⟨S8x1x2048x2048, .f32⟩
  | 7 => ⟨S8x1x2048x2048, .f32⟩
  | 8 => ⟨S8x1x2048x2048, .f32⟩
  | 9 => ⟨S8x1x2048x2048, .f32⟩
  | 10 => ⟨S_, .f32⟩
  | 11 => ⟨S8x1x2048x2048, .f32⟩
  | 12 => ⟨S8x1x2048x2048, .f32⟩
  | 13 => ⟨S8x1x2048x2048, .f32⟩
  | 14 => ⟨S8x1x2048x2048, .f32⟩
  | 15 => ⟨S_, .f32⟩
  | 16 => ⟨S8x1x2048x2048, .f32⟩
  | 17 => ⟨S8x1x2048x2048, .f32⟩
  | 18 => ⟨S8x1x2048x2048, .f32⟩
  | 19 => ⟨S8x1x2048x2048, .f32⟩
  | 20 => ⟨S_, .f32⟩
  | 21 => ⟨S8x1x2048x2048, .f32⟩
  | 22 => ⟨S8x1x2048x2048, .f32⟩
  | 23 => ⟨S8x1x2048x2048, .f32⟩
  | 24 => ⟨S8x1x2048x2048, .f32⟩
  | 25 => ⟨S_, .f32⟩
  | 26 => ⟨S8x1x2048x2048, .f32⟩
  | 27 => ⟨S8x1x2048x2048, .f32⟩
  | 28 => ⟨S8x1x2048x2048, .f32⟩
  | 29 => ⟨S8x1x2038x2038, .f32⟩
  | 30 => ⟨S8x2038x2038, .f32⟩
  | 31 => ⟨S8x2038x2038, .f32⟩
  | 32 => ⟨S8x2038x2038, .f32⟩
  | 33 => ⟨S8x1x2048x2048, .f32⟩
  | 34 => ⟨S_, .i32⟩
  | 35 => ⟨S_, .f32⟩
  | 36 => ⟨S8x3x2050x2048, .f32⟩
  | 37 => ⟨S_, .f32⟩
  | 38 => ⟨S8x1x2048x2048, .f32⟩
  | 39 => ⟨S8x1x2048x2048, .f32⟩
  | 40 => ⟨S_, .f32⟩
  | 41 => ⟨S8x1x2048x2048, .f32⟩
  | 42 => ⟨S8x1x2048x2048, .f32⟩
  | 43 => ⟨S8x1x2048x2048, .f32⟩
  | 44 => ⟨S8x1x2048x2048, .f32⟩
  | 45 => ⟨S_, .f32⟩
  | 46 => ⟨S8x1x2048x2048, .f32⟩
  | 47 => ⟨S8x1x2048x2048, .f32⟩
  | 48 => ⟨S8x1x2048x2048, .f32⟩
  | 49 => ⟨S8x1x2048x2048, .f32⟩
  | 50 => ⟨S_, .f32⟩
  | 51 => ⟨S8x1x2048x2048, .f32⟩
  | 52 => ⟨S8x1x2048x2048, .f32⟩
  | 53 => ⟨S8x1x2048x2048, .f32⟩
  | 54 => ⟨S8x1x2048x2048, .f32⟩
  | 55 => ⟨S_, .f32⟩
  | 56 => ⟨S8x1x2048x2048, .f32⟩
  | 57 => ⟨S8x1x2048x2048, .f32⟩
  | 58 => ⟨S8x1x2048x2048, .f32⟩
  | 59 => ⟨S8x1x2048x2048, .f32⟩
  | 60 => ⟨S_, .f32⟩
  | 61 => ⟨S8x1x2048x2048, .f32⟩
  | 62 => ⟨S8x1x2048x2048, .f32⟩
  | 63 => ⟨S8x1x2048x2048, .f32⟩
  | 64 => ⟨S8x1x2048x2048, .f32⟩
  | 65 => ⟨S_, .f32⟩
  | 66 => ⟨S8x1x2048x2048, .f32⟩
  | 67 => ⟨S8x1x2048x2048, .f32⟩
  | 68 => ⟨S8x1x2048x2048, .f32⟩
  | 69 => ⟨S8x1x2048x2048, .f32⟩
  | 70 => ⟨S_, .f32⟩
  | 71 => ⟨S8x1x2048x2048, .f32⟩
  | 72 => ⟨S8x1x2048x2048, .f32⟩
  | 73 => ⟨S8x1x2048x2048, .f32⟩
  | 74 => ⟨S8x1x2048x2048, .f32⟩
  | 75 => ⟨S_, .f32⟩
  | 76 => ⟨S8x1x2048x2048, .f32⟩
  | 77 => ⟨S8x1x2048x2048, .f32⟩
  | 78 => ⟨S8x1x2048x2048, .f32⟩
  | 79 => ⟨S8x1x2048x2048, .f32⟩
  | 80 => ⟨S_, .f32⟩
  | 81 => ⟨S8x1x2048x2048, .f32⟩
  | 82 => ⟨S8x1x2048x2048, .f32⟩
  | 83 => ⟨S8x1x2048x2048, .f32⟩
  | 84 => ⟨S8x1x2038x2038, .f32⟩
  | 85 => ⟨S8x2038x2038, .f32⟩
  | 86 => ⟨S8x2038x2038, .f32⟩
  | 87 => ⟨S8x2038x2038, .f32⟩
  | 88 => ⟨S8x1x2048x2048, .f32⟩
  | 89 => ⟨S_, .i32⟩
  | 90 => ⟨S_, .f32⟩
  | 91 => ⟨S8x3x2050x2048, .f32⟩
  | 92 => ⟨S_, .f32⟩
  | 93 => ⟨S8x1x2048x2048, .f32⟩
  | 94 => ⟨S8x1x2048x2048, .f32⟩
  | 95 => ⟨S_, .f32⟩
  | 96 => ⟨S8x1x2048x2048, .f32⟩
  | 97 => ⟨S8x1x2048x2048, .f32⟩
  | 98 => ⟨S8x1x2048x2048, .f32⟩
  | 99 => ⟨S8x1x2048x2048, .f32⟩
  | 100 => ⟨S_, .f32⟩
  | 101 => ⟨S8x1x2048x2048, .f32⟩
  | 102 => ⟨S8x1x2048x2048, .f32⟩
  | 103 => ⟨S8x1x2048x2048, .f32⟩
  | 104 => ⟨S8x1x2048x2048, .f32⟩
  | 105 => ⟨S_, .f32⟩
  | 106 => ⟨S8x1x2048x2048, .f32⟩
  | 107 => ⟨S8x1x2048x2048, .f32⟩
  | 108 => ⟨S8x1x2048x2048, .f32⟩
  | 109 => ⟨S8x1x2048x2048, .f32⟩
  | 110 => ⟨S_, .f32⟩
  | 111 => ⟨S8x1x2048x2048, .f32⟩
  | 112 => ⟨S8x1x2048x2048, .f32⟩
  | 113 => ⟨S8x1x2048x2048, .f32⟩
  | 114 => ⟨S8x1x2048x2048, .f32⟩
  | 115 => ⟨S_, .f32⟩
  | 116 => ⟨S8x1x2048x2048, .f32⟩
  | 117 => ⟨S8x1x2048x2048, .f32⟩
  | 118 => ⟨S8x1x2048x2048, .f32⟩
  | 119 => ⟨S8x1x2048x2048, .f32⟩
  | 120 => ⟨S_, .f32⟩
  | 121 => ⟨S8x1x2048x2048, .f32⟩
  | 122 => ⟨S8x1x2048x2048, .f32⟩
  | 123 => ⟨S8x1x2048x2048, .f32⟩
  | 124 => ⟨S8x1x2048x2048, .f32⟩
  | 125 => ⟨S_, .f32⟩
  | 126 => ⟨S8x1x2048x2048, .f32⟩
  | 127 => ⟨S8x1x2048x2048, .f32⟩
  | _ => ⟨S8x1x2048x2048, .f32⟩

abbrev hbmTy0_2 (i : Nat) : BufTy := match i % 128 with
  | 0 => ⟨S8x1x2048x2048, .f32⟩
  | 1 => ⟨S8x1x2048x2048, .f32⟩
  | 2 => ⟨S_, .f32⟩
  | 3 => ⟨S8x1x2048x2048, .f32⟩
  | 4 => ⟨S8x1x2048x2048, .f32⟩
  | 5 => ⟨S8x1x2048x2048, .f32⟩
  | 6 => ⟨S8x1x2048x2048, .f32⟩
  | 7 => ⟨S_, .f32⟩
  | 8 => ⟨S8x1x2048x2048, .f32⟩
  | 9 => ⟨S8x1x2048x2048, .f32⟩
  | 10 => ⟨S8x1x2048x2048, .f32⟩
  | 11 => ⟨S8x1x2038x2038, .f32⟩
  | 12 => ⟨S8x2038x2038, .f32⟩
  | 13 => ⟨S8x2038x2038, .f32⟩
  | 14 => ⟨S8x2038x2038, .f32⟩
  | 15 => ⟨S8x2038x2038, .f32⟩
  | 16 => ⟨S_, .f32⟩
  | 17 => ⟨S8x2038x2038, .f32⟩
  | 18 => ⟨S8x2038x2038, .f32⟩
  | 19 => ⟨S8x2038x2038, .f32⟩
  | 20 => ⟨S_, .f32⟩
  | 21 => ⟨S8, .f32⟩
  | 22 => ⟨S_, .f32⟩
  | 23 => ⟨S8, .f32⟩
  | 24 => ⟨S8, .f32⟩
  | 25 => ⟨S_, .f32⟩
  | 26 => ⟨S_, .f32⟩
  | _ => ⟨S8x1x2048x2048, .f32⟩

abbrev hbmTy (i : Nat) : BufTy := match i / 128 with
  | 0 => hbmTy0_0 i
  | 1 => hbmTy0_1 i
  | 2 => hbmTy0_2 i
  | _ => ⟨S8x1x2048x2048, .f32⟩

abbrev bufTy : (tb : Table) → Fin (tcTables nBuf tb) → BufTy
  | .hbm, ⟨i, _⟩ => hbmTy i
  | _, _ => ⟨S8x1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_9 : Ref sig .tc := ⟨.hbm, 54, rfl⟩
abbrev main_call1_v0 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_15 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_17 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_18 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_19 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_20 : Ref sig .tc := ⟨.hbm, 107, rfl⟩
abbrev main_call2_v0 : Ref sig .tc := ⟨.hbm, 108, rfl⟩
abbrev main_v81 : Ref sig .tc := ⟨.hbm, 109, rfl⟩
abbrev main_cst_21 : Ref sig .tc := ⟨.hbm, 110, rfl⟩
abbrev main_v82 : Ref sig .tc := ⟨.hbm, 111, rfl⟩
abbrev main_v83 : Ref sig .tc := ⟨.hbm, 112, rfl⟩
abbrev main_cst_22 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_23 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_24 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_25 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_26 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_27 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_28 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_29 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_30 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_c_31 : Ref sig .tc := ⟨.hbm, 162, rfl⟩
abbrev main_call3_v0 : Ref sig .tc := ⟨.hbm, 163, rfl⟩
abbrev main_v124 : Ref sig .tc := ⟨.hbm, 164, rfl⟩
abbrev main_cst_32 : Ref sig .tc := ⟨.hbm, 165, rfl⟩
abbrev main_v125 : Ref sig .tc := ⟨.hbm, 166, rfl⟩
abbrev main_v126 : Ref sig .tc := ⟨.hbm, 167, rfl⟩
abbrev main_cst_33 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_34 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_35 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_cst_36 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_37 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_38 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_39 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_40 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_41 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_c_42 : Ref sig .tc := ⟨.hbm, 217, rfl⟩
abbrev main_call4_v0 : Ref sig .tc := ⟨.hbm, 218, rfl⟩
abbrev main_v167 : Ref sig .tc := ⟨.hbm, 219, rfl⟩
abbrev main_cst_43 : Ref sig .tc := ⟨.hbm, 220, rfl⟩
abbrev main_v168 : Ref sig .tc := ⟨.hbm, 221, rfl⟩
abbrev main_v169 : Ref sig .tc := ⟨.hbm, 222, rfl⟩
abbrev main_cst_44 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_cst_45 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_cst_46 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_cst_47 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_cst_48 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_cst_49 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_cst_50 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_cst_51 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_cst_52 : Ref sig .tc := ⟨.hbm, 263, rfl⟩
abbrev main_v202 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_cst_53 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_cst_54 : Ref sig .tc := ⟨.hbm, 276, rfl⟩
abbrev main_v213 : Ref sig .tc := ⟨.hbm, 277, rfl⟩
abbrev main_cst_55 : Ref sig .tc := ⟨.hbm, 278, rfl⟩
abbrev main_v214 : Ref sig .tc := ⟨.hbm, 279, rfl⟩
abbrev main_v215 : Ref sig .tc := ⟨.hbm, 280, rfl⟩
abbrev main_cst_56 : Ref sig .tc := ⟨.hbm, 281, rfl⟩
abbrev main_v216 : Ref sig .tc := ⟨.hbm, 282, rfl⟩

abbrev nD : Nat := 1
abbrev τ : Topo := Topo.v7x

variable {F : FTy → Type} [FloatOps F]
-- ==== Proof.RealSums.lean ====
/-
  The mathematics of the equation, over the real numbers alone: the three-tap mean down a column, the
  loss of one pixel, and why the kernel's way of adding the losses of one block of columns (a head of 27
  rows, 62 tiles of 32 rows whose cross term is telescoped, a tail of 27 rows) is their plain sum.
-/
module

public import Mathlib.Algebra.BigOperators.Intervals
public import Mathlib.Algebra.BigOperators.Fin
public import Mathlib.Data.Real.Basic
public import Mathlib.Tactic.Ring
public import Mathlib.Tactic.NormNum
public import Mathlib.Tactic.Linarith

@[expose] public section

noncomputable section

namespace Cert.Ssim

open Finset

/-- The weight of the two outer taps of the filter: the binary32 number nearest to 0.118318. -/
def k0 : ℝ := 7940187 / 67108864
/-- The weight of the middle tap of the filter: the binary32 number nearest to 0.147761. -/
def k1 : ℝ := 4958047 / 33554432
/-- The sum of the three taps, itself a binary32 number. -/
def kd : ℝ := 6449117 / 16777216

/-- The sum of the three taps is exact. -/
theorem kd_eq : kd = 2 * k0 + k1 := by unfold kd k0 k1; norm_num

/-- The weighted mean of the rows `r`, `r + 1`, `r + 2` of column `c`. -/
def mean (u : ℕ → ℕ → ℝ) (r c : ℕ) : ℝ := k0 * (u r c + u (r + 2) c) + k1 * u (r + 1) c

/-- The product of two images, pixel by pixel. -/
def pr (u v : ℕ → ℕ → ℝ) (r c : ℕ) : ℝ := u r c * v r c

/-- The covariance of two images under the filter. -/
def cov (u v : ℕ → ℕ → ℝ) (r c : ℕ) : ℝ := mean (pr u v) r c - mean u r c * mean v r c

/-- The loss at one pixel: the product of the variances less twice the covariance. -/
def loss (u v : ℕ → ℕ → ℝ) (r c : ℕ) : ℝ := cov u u r c * cov v v r c - 2 * cov u v r c

/-- The part of the loss that the kernel adds up tile by tile: the loss without the mean of the product. -/
def core (u v : ℕ → ℕ → ℝ) (r c : ℕ) : ℝ :=
  cov u u r c * cov v v r c + (mean u r c * mean v r c + mean u r c * mean v r c)

/-- The loss is its core less twice the mean of the product. -/
theorem loss_eq_core (u v : ℕ → ℕ → ℝ) (r c : ℕ) : loss u v r c = core u v r c - 2 * mean (pr u v) r c := by
  unfold loss core; rw [show cov u v r c = mean (pr u v) r c - mean u r c * mean v r c from rfl]; ring

/-- Tiles of 32 rows one after the other are the rows in order. -/
theorem sum_tiles (f : ℕ → ℝ) (K : ℕ) :
    ∑ i ∈ range 32, ∑ k ∈ range K, f (32 * k + i) = ∑ n ∈ range (32 * K), f n := by
  rw [sum_comm]
  induction K with
  | zero => simp
  | succ K ih => rw [sum_range_succ, ih, Nat.mul_succ, sum_range_add]

/-- The weighted three-row means of a column add up to the column's own sum, once per tap, corrected by two
    rows at each end. -/
theorem sum_means (q : ℕ → ℝ) (N : ℕ) :
    ∑ n ∈ range N, (k0 * (q n + q (n + 2)) + k1 * q (n + 1))
      = kd * ∑ n ∈ range N, q (n + 1) + k0 * (q 0 - q 1 - q N + q (N + 1)) := by
  rw [kd_eq]
  induction N with
  | zero => simp
  | succ N ih => rw [sum_range_succ, sum_range_succ, ih]; ring

/-- One column: the kernel's head, tiles, telescoped cross term and tail are the sum of the column's losses. -/
theorem column (u v : ℕ → ℕ → ℝ) (c : ℕ) :
    (∑ i ∈ range 32, ∑ k ∈ range 62, core u v (32 * k + i + 31) c)
      - 2 * (kd * ∑ i ∈ range 32, ∑ k ∈ range 62, pr u v (32 * k + i + 31 + 1) c
          + k0 * (pr u v 31 c - pr u v 32 c - pr u v 2015 c + pr u v 2016 c))
      + ∑ i ∈ range 27, loss u v (i + 4) c + ∑ i ∈ range 27, loss u v (i + 2015) c
      = ∑ n ∈ range 2038, loss u v (n + 4) c := by
  have hq := sum_means (fun n => pr u v (n + 31) c) 1984
  have h1 := sum_tiles (fun n => core u v (n + 31) c) 62
  have h2 := sum_tiles (fun n => pr u v (n + 31 + 1) c) 62
  have hs : ∑ n ∈ range 2038, loss u v (n + 4) c
      = ∑ n ∈ range 27, loss u v (n + 4) c + ∑ n ∈ range 1984, loss u v (n + 31) c
        + ∑ n ∈ range 27, loss u v (n + 2015) c := by
    rw [show 2038 = (27 + 1984) + 27 from rfl, sum_range_add, sum_range_add]
    refine congrArg₂ _ (congrArg₂ _ rfl ?_) ?_ <;> refine sum_congr rfl fun n _ => ?_ <;> congr 1 <;> omega
  have hl : ∑ n ∈ range 1984, loss u v (n + 31) c
      = ∑ n ∈ range 1984, core u v (n + 31) c - 2 * ∑ n ∈ range 1984, mean (pr u v) (n + 31) c := by
    rw [mul_sum, ← sum_sub_distrib]
    exact sum_congr rfl fun n _ => loss_eq_core u v (n + 31) c
  have hm : ∑ n ∈ range 1984, mean (pr u v) (n + 31) c
      = ∑ n ∈ range 1984, (k0 * (pr u v (n + 31) c + pr u v (n + 2 + 31) c) + k1 * pr u v (n + 1 + 31) c) := by
    refine sum_congr rfl fun n _ => ?_
    unfold mean
    rw [show n + 31 + 2 = n + 2 + 31 by omega, show n + 31 + 1 = n + 1 + 31 by omega]
  have h3 : ∑ n ∈ range 1984, pr u v (n + 31 + 1) c = ∑ n ∈ range 1984, pr u v (n + 1 + 31) c :=
    sum_congr rfl fun n _ => by rw [show n + 31 + 1 = n + 1 + 31 by omega]
  norm_num only at h1 h2 hq
  rw [h1, h2, hs, hl, hm, hq, h3]
  ring

/-- One block of 512 columns, weighted by `w`: the sums as the kernel takes them, rows outside and columns inside,
    come to the weighted sum of the columns' losses. -/
theorem block (u v : ℕ → ℕ → ℝ) (w : ℕ → ℝ) :
    ((∑ i ∈ range 32, ∑ c ∈ range 512, (∑ k ∈ range 62, core u v (32 * k + i + 31) c) * w c)
      - 2 * (kd * (∑ i ∈ range 32, ∑ c ∈ range 512, (∑ k ∈ range 62, pr u v (32 * k + i + 31 + 1) c) * w c)
          + k0 * (∑ c ∈ range 512, pr u v 31 c * w c - ∑ c ∈ range 512, pr u v 32 c * w c
            - ∑ c ∈ range 512, pr u v 2015 c * w c + ∑ c ∈ range 512, pr u v 2016 c * w c)))
      + (∑ i ∈ range 27, ∑ c ∈ range 512, loss u v (i + 4) c * w c)
      + (∑ i ∈ range 27, ∑ c ∈ range 512, loss u v (i + 2015) c * w c)
      = ∑ c ∈ range 512, (∑ n ∈ range 2038, loss u v (n + 4) c) * w c := by
  rw [sum_comm (s := range 32), sum_comm (s := range 32), sum_comm (s := range 27), sum_comm (s := range 27)]
  simp only [mul_sum, ← sum_sub_distrib, ← sum_add_distrib]
  refine sum_congr rfl fun c _ => ?_
  rw [← column u v c]
  simp only [← sum_mul, ← mul_sum]
  ring

/-- The columns that the mask keeps, over the four blocks of 512 columns, are the columns 5 to 2042. -/
theorem masked (f : ℕ → ℝ) :
    ∑ j ∈ range 4, ∑ c ∈ range 512, f (512 * j + c) * (if 5 ≤ 512 * j + c ∧ 512 * j + c < 2043 then 1 else 0)
      = ∑ c ∈ range 2038, f (c + 5) := by
  have h : ∀ J : ℕ, ∑ j ∈ range J, ∑ c ∈ range 512,
      f (512 * j + c) * (if 5 ≤ 512 * j + c ∧ 512 * j + c < 2043 then (1 : ℝ) else 0)
      = ∑ n ∈ range (512 * J), f n * (if 5 ≤ n ∧ n < 2043 then (1 : ℝ) else 0) := by
    intro J
    induction J with
    | zero => simp
    | succ J ih => rw [sum_range_succ, ih, Nat.mul_succ, sum_range_add]
  rw [h 4, show 512 * 4 = 5 + 2038 + 5 from rfl, sum_range_add, sum_range_add]
  have a : ∑ n ∈ range 5, f n * (if 5 ≤ n ∧ n < 2043 then (1 : ℝ) else 0) = 0 :=
    sum_eq_zero fun n hn => by have := mem_range.mp hn; rw [if_neg (by omega), mul_zero]
  have b : ∑ n ∈ range 5, f (5 + 2038 + n) * (if 5 ≤ 5 + 2038 + n ∧ 5 + 2038 + n < 2043 then (1 : ℝ) else 0) = 0 :=
    sum_eq_zero fun n hn => by rw [if_neg (by omega), mul_zero]
  rw [a, b, zero_add, add_zero]
  exact sum_congr rfl fun n hn => by
    have := mem_range.mp hn
    rw [if_pos (by omega), mul_one, Nat.add_comm]

/-- A sum over 512 lanes of a value that is the same on each run of 128 lanes, scaled by 1/128, is the sum over the
    four runs. -/
theorem lanes (s : ℕ → ℝ) : ∑ l ∈ range 512, s (l / 128) * (1 / 128) = ∑ j ∈ range 4, s j := by
  have h : ∀ J : ℕ, ∑ l ∈ range (128 * J), s (l / 128) * (1 / 128) = ∑ j ∈ range J, s j := by
    intro J
    induction J with
    | zero => simp
    | succ J ih =>
      rw [sum_range_succ, ← ih, Nat.mul_succ, sum_range_add]
      congr 1
      rw [sum_congr rfl (g := fun _ => s J * (1 / 128)) fun n hn => by
        have := mem_range.mp hn
        rw [show (128 * J + n) / 128 = J by omega]]
      rw [sum_const, card_range, nsmul_eq_mul]; push_cast; ring
  exact h 4

/-- The sum of all the losses that count: rows 5 to 2042 and columns 5 to 2042 of every image. -/
def total (x y : ℕ → ℕ → ℕ → ℝ) : ℝ :=
  ∑ b ∈ Finset.range 8, ∑ c ∈ Finset.range 2038, ∑ n ∈ Finset.range 2038, loss (x b) (y b) (n + 4) (c + 5)

end Cert.Ssim
-- ==== Proof.Words.lean ====
/-
  The constants of the two programs as real numbers, and sums of real numbers among the extended reals.
-/
module

public import proofs.«01_k».proof.Proof.RealSums
public import Idealize.ShloMosaic.Lib.Pipeline.ValueKit
public import Idealize.ShloMosaic.Lib.IdealHost

@[expose] public section

noncomputable section

namespace Cert.Ssim

open Idealize.ShloMosaic Finset

/-- The word of the outer taps is `k0`. -/
theorem word_k0 : Ideal.ofBits .f32 0x3DF250B6#32 = ((k0 : ℝ) : EReal) := by
  unfold k0
  simp [Ideal.ofBits, Ideal.ieee, -EReal.coe_mul]; norm_num

/-- The word of the middle tap is `k1`. -/
theorem word_k1 : Ideal.ofBits .f32 0x3E174EBE#32 = ((k1 : ℝ) : EReal) := by
  unfold k1
  simp [Ideal.ofBits, Ideal.ieee, -EReal.coe_mul]; norm_num

/-- The word of the three taps' sum is `kd`. -/
theorem word_kd : Ideal.ofBits .f32 0x3EC4CFBA#32 = ((kd : ℝ) : EReal) := by
  unfold kd
  simp [Ideal.ofBits, Ideal.ieee, -EReal.coe_mul]; norm_num

/-- The word of two. -/
theorem word_two : Ideal.ofBits .f32 0x40000000#32 = ((2 : ℝ) : EReal) := by
  simp [Ideal.ofBits, Ideal.ieee, -EReal.coe_mul]; norm_num

/-- The word of one hundred and twenty-eighth. -/
theorem word_lane : Ideal.ofBits .f32 0x3C000000#32 = ((1 / 128 : ℝ) : EReal) := by
  simp [Ideal.ofBits, Ideal.ieee, -EReal.coe_mul]; norm_num

/-- The word of 2038, the number of rows and of columns that count. -/
theorem word_side : Ideal.ofBits .f32 0x44FEC000#32 = ((2038 : ℝ) : EReal) := by
  simp [Ideal.ofBits, Ideal.ieee, -EReal.coe_mul]; norm_num

/-- The word of the filter's corner taps, which only ever meet zeros. -/
theorem word_corner : Ideal.ofBits .f32 0x3DC207EA#32 = ((6358005 / 67108864 : ℝ) : EReal) := by
  simp [Ideal.ofBits, Ideal.ieee, -EReal.coe_mul]; norm_num

/-- The word of 2038², the number of pixels that count in one image. -/
theorem word_area : Ideal.ofBits .f32 0x4A7D8190#32 = ((4153444 : ℝ) : EReal) := by
  simp [Ideal.ofBits, Ideal.ieee, -EReal.coe_mul]; norm_num

/-- A finite sum of real numbers is the same number among the extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- A quotient of real numbers by a real number other than zero is the real quotient. -/
theorem div_real (a b : ℝ) (h : b ≠ 0) : Ideal.div (a : EReal) (b : EReal) = ((a / b : ℝ) : EReal) := by
  rw [Ideal.div_coe h, ← EReal.coe_mul, mul_one_div]

end Cert.Ssim
-- ==== Proof.KernelBlock.lean ====
/-
  What the kernel's body computes at one grid point, over real numbers: each stored or carried value at an
  index, for blocks whose entries are real numbers.
-/
module

public import proofs.«01_k».proof.Proof.Words
public import proofs.«01_k».proof.Proof.Gen.KernelIdeal.Frame
public import Idealize.ShloMosaic.Lib.Pipeline.ValueKit

@[expose] public section

set_option maxRecDepth 16384

noncomputable section

namespace Cert.KernelIdeal.Block

open Idealize.ShloMosaic Idealize.ShloMosaic.TcCoe Idealize.SL.Sem
open Idealize.ShloMosaic.Pipeline (Dat)
open Cert.KernelIdeal Cert.KernelIdeal.Gen Cert.Ssim

/-- The first 27 rows: the loss, of the rows loaded from row 0. -/
theorem head_apply (X Y : Vec Ideal S1x1x40x512 .f32) (u v : ℕ → ℕ → ℝ)
    (hX : ∀ (r : Fin 40) (c : Fin 512), X (ix4 0 0 r c) = ((u r c : ℝ) : EReal))
    (hY : ∀ (r : Fin 40) (c : Fin 512), Y (ix4 0 0 r c) = ((v r c : ℝ) : EReal)) (i : Fin 27) (c : Fin 512) :
    k0_pay31 (k0_pay20 X) (k0_pay21 X) (k0_pay22 X) (k0_pay23 Y) (k0_pay24 Y) (k0_pay25 Y) (k0_pay26 X) (k0_pay27 Y)
      (k0_pay28 X) (k0_pay29 Y) (k0_pay30 (F := Ideal)) (ix2 i c) = ((loss u v (i + 4) c : ℝ) : EReal) := by
  pointwise [k0_pay31, k0_pay20, k0_pay21, k0_pay22, k0_pay23, k0_pay24, k0_pay25, k0_pay26, k0_pay27, k0_pay28,
    k0_pay29, k0_pay30, k0_pay18, k0_pay19]
  simp only [hX, hY, word_k0, word_k1, word_two, ← EReal.coe_mul, ← EReal.coe_add, ← EReal.coe_sub]
  rw [show 4 + (i : ℕ) = i + 4 by omega, show 5 + (i : ℕ) = i + 4 + 1 by omega, show 6 + (i : ℕ) = i + 4 + 2 by omega]
  rfl

/-- The last 27 rows: the loss, of the rows loaded from row 2008. -/
theorem tail_apply (X Y : Vec Ideal S1x1x40x512 .f32) (u v : ℕ → ℕ → ℝ)
    (hX : ∀ (r : Fin 40) (c : Fin 512), X (ix4 0 0 r c) = ((u (2008 + r) c : ℝ) : EReal))
    (hY : ∀ (r : Fin 40) (c : Fin 512), Y (ix4 0 0 r c) = ((v (2008 + r) c : ℝ) : EReal)) (i : Fin 27) (c : Fin 512) :
    k0_pay43 (k0_pay34 X) (k0_pay35 X) (k0_pay36 X) (k0_pay37 Y) (k0_pay38 Y) (k0_pay39 Y) (k0_pay40 X) (k0_pay41 Y)
      (k0_pay42 (F := Ideal)) (ix2 i c) = ((loss u v (i + 2015) c : ℝ) : EReal) := by
  pointwise [k0_pay43, k0_pay34, k0_pay35, k0_pay36, k0_pay37, k0_pay38, k0_pay39, k0_pay40, k0_pay41, k0_pay42,
    k0_pay32, k0_pay33]
  simp only [hX, hY, word_k0, word_k1, word_two, ← EReal.coe_mul, ← EReal.coe_add, ← EReal.coe_sub]
  rw [show 2008 + (7 + (i : ℕ)) = i + 2015 by omega, show 2008 + (8 + (i : ℕ)) = i + 2015 + 1 by omega,
    show 2008 + (9 + (i : ℕ)) = i + 2015 + 2 by omega]
  rfl

/-- One tile of 32 rows adds its core to the first accumulator. -/
theorem tile_core_apply (A : FVec Ideal S32x512 .f32) (X Y : Vec Ideal S1x1x48x512 .f32) (u v : ℕ → ℕ → ℝ) (k : ℕ)
    (hX : ∀ (r : Fin 48) (c : Fin 512), X (ix4 0 0 r c) = ((u (32 * k + 24 + r) c : ℝ) : EReal))
    (hY : ∀ (r : Fin 48) (c : Fin 512), Y (ix4 0 0 r c) = ((v (32 * k + 24 + r) c : ℝ) : EReal)) (i : Fin 32) (c : Fin 512) :
    k0_pay16 A (k0_pay8 Y) (k0_pay10 X) (k0_pay11 Y) (k0_pay12 X) (k0_pay13 Y) (k0_pay14 Y) (ix2 i c)
      = A (ix2 i c) + ((core u v (32 * k + i + 31) c : ℝ) : EReal) := by
  pointwise [k0_pay16, k0_pay8, k0_pay10, k0_pay11, k0_pay12, k0_pay13, k0_pay14, k0_pay2, k0_pay3, k0_pay4, k0_pay5,
    k0_pay6, k0_pay7, k0_pay9]
  simp only [hX, hY, word_k0, word_k1, word_two, ← EReal.coe_mul, ← EReal.coe_add, ← EReal.coe_sub]
  rw [show 32 * k + 24 + (7 + (i : ℕ)) = 32 * k + i + 31 by omega,
    show 32 * k + 24 + (8 + (i : ℕ)) = 32 * k + i + 31 + 1 by omega,
    show 32 * k + 24 + (9 + (i : ℕ)) = 32 * k + i + 31 + 2 by omega]
  rfl

/-- One tile of 32 rows adds the product of its middle rows to the second accumulator. -/
theorem tile_prod_apply (A : FVec Ideal S32x512 .f32) (X Y : Vec Ideal S1x1x48x512 .f32) (u v : ℕ → ℕ → ℝ) (k : ℕ)
    (hX : ∀ (r : Fin 48) (c : Fin 512), X (ix4 0 0 r c) = ((u (32 * k + 24 + r) c : ℝ) : EReal))
    (hY : ∀ (r : Fin 48) (c : Fin 512), Y (ix4 0 0 r c) = ((v (32 * k + 24 + r) c : ℝ) : EReal)) (i : Fin 32) (c : Fin 512) :
    k0_pay17 A (k0_pay5 X) (k0_pay8 Y) (ix2 i c)
      = A (ix2 i c) + ((pr u v (32 * k + i + 31 + 1) c : ℝ) : EReal) := by
  pointwise [k0_pay17, k0_pay8, k0_pay2, k0_pay3, k0_pay5]
  simp only [hX, hY, ← EReal.coe_mul]
  rw [show 32 * k + 24 + (8 + (i : ℕ)) = 32 * k + i + 31 + 1 by omega]
  rfl

/-- The mask's bit, computed on 32-bit words, at every column of every block. -/
theorem mask_word : ∀ (j : Fin 4) (c : Fin 512),
    BitVec.setWidth 32 (IntOp.andi
        (IntOp.cmpi .sge (IntOp.addi (Scalar.muli (BitVec.ofNat 32 j) 512#32) (BitVec.ofNat 32 c)) 5#32)
        (IntOp.cmpi .slt (IntOp.addi (Scalar.muli (BitVec.ofNat 32 j) 512#32) (BitVec.ofNat 32 c)) 2043#32))
      = if 5 ≤ 512 * (j : ℕ) + c ∧ 512 * (j : ℕ) + c < 2043 then 1#32 else 0#32 := by decide +kernel

/-- The weight of column `c` of block column `j`: one on the columns 5 to 2042 of the image, zero elsewhere. -/
def weight (j c : ℕ) : ℝ := if 5 ≤ 512 * j + c ∧ 512 * j + c < 2043 then 1 else 0

/-- The mask holds the weights. -/
theorem mask_apply (j : Fin 4) (c : Fin 512) :
    k0_pay44 (F := Ideal) (BitVec.ofNat 32 j) (ix2 0 c) = ((weight j c : ℝ) : EReal) := by
  pointwise [k0_pay44]
  rw [mask_word j c]
  unfold weight
  split_ifs
  · show (((1#32 : BitVec 32).toInt : ℝ) : EReal) = ((1 : ℝ) : EReal)
    norm_num
  · show (((0#32 : BitVec 32).toInt : ℝ) : EReal) = ((0 : ℝ) : EReal)
    norm_num

/-- The masked sum of the first accumulator. -/
theorem sum_core (A : FVec Ideal S32x512 .f32) (M : FVec Ideal S1x512 .f32) (a : ℕ → ℕ → ℝ) (w : ℕ → ℝ)
    (hA : ∀ (i : Fin 32) (c : Fin 512), A (ix2 i c) = ((a i c : ℝ) : EReal))
    (hM : ∀ c : Fin 512, M (ix2 0 c) = ((w c : ℝ) : EReal)) :
    k0_pay45 A M = ((∑ i ∈ Finset.range 32, ∑ c ∈ Finset.range 512, a i c * w c : ℝ) : EReal) := by
  pointwise [k0_pay45]
  simp only [hA, hM, ← EReal.coe_mul, coe_sum, Finset.sum_range]

/-- Twice the cross term: the masked sum of the second accumulator, and the four rows at its ends. -/
theorem cross (B : FVec Ideal S32x512 .f32) (X Y : Vec Ideal S1x1x40x512 .f32) (Z W : Vec Ideal S1x1x40x512 .f32)
    (M : FVec Ideal S1x512 .f32) (b : ℕ → ℕ → ℝ) (u v : ℕ → ℕ → ℝ) (w : ℕ → ℝ)
    (hB : ∀ (i : Fin 32) (c : Fin 512), B (ix2 i c) = ((b i c : ℝ) : EReal))
    (hX : ∀ (r : Fin 40) (c : Fin 512), X (ix4 0 0 r c) = ((u r c : ℝ) : EReal))
    (hY : ∀ (r : Fin 40) (c : Fin 512), Y (ix4 0 0 r c) = ((v r c : ℝ) : EReal))
    (hZ : ∀ (r : Fin 40) (c : Fin 512), Z (ix4 0 0 r c) = ((u (2008 + r) c : ℝ) : EReal))
    (hW : ∀ (r : Fin 40) (c : Fin 512), W (ix4 0 0 r c) = ((v (2008 + r) c : ℝ) : EReal))
    (hM : ∀ c : Fin 512, M (ix2 0 c) = ((w c : ℝ) : EReal)) :
    k0_pay46 B (k0_pay18 X) (k0_pay19 Y) (k0_pay32 Z) (k0_pay33 W) M
      = ((2 * (kd * (∑ i ∈ Finset.range 32, ∑ c ∈ Finset.range 512, b i c * w c)
          + k0 * (∑ c ∈ Finset.range 512, pr u v 31 c * w c - ∑ c ∈ Finset.range 512, pr u v 32 c * w c
            - ∑ c ∈ Finset.range 512, pr u v 2015 c * w c + ∑ c ∈ Finset.range 512, pr u v 2016 c * w c)) : ℝ) : EReal) := by
  pointwise [k0_pay46, k0_pay18, k0_pay19, k0_pay32, k0_pay33]
  simp only [Finset.univ_unique, Finset.sum_singleton]
  simp only [hB, hX, hY, hZ, hW, hM, word_two, word_kd, word_k0, ← EReal.coe_mul, ← EReal.coe_add, ← EReal.coe_sub,
    coe_sum, Finset.sum_range]
  rfl

/-- What the body stores, on every lane: the block's weighted sum over 128. -/
theorem stored (H L : FVec Ideal S27x512 .f32) (M : FVec Ideal S1x512 .f32) (p q : EReal) (h l : ℕ → ℕ → ℝ) (w : ℕ → ℝ)
    (a b : ℝ) (hp : p = (a : EReal)) (hq : q = (b : EReal))
    (hH : ∀ (i : Fin 27) (c : Fin 512), H (ix2 i c) = ((h i c : ℝ) : EReal))
    (hL : ∀ (i : Fin 27) (c : Fin 512), L (ix2 i c) = ((l i c : ℝ) : EReal))
    (hM : ∀ c : Fin 512, M (ix2 0 c) = ((w c : ℝ) : EReal)) (y : S1x1x128.Idx) :
    k0_pay1 (F := Ideal) H L M p q y
      = (((((a - b) + ∑ i ∈ Finset.range 27, ∑ c ∈ Finset.range 512, h i c * w c)
          + ∑ i ∈ Finset.range 27, ∑ c ∈ Finset.range 512, l i c * w c) * (1 / 128) : ℝ) : EReal) := by
  subst hp hq
  pointwise [k0_pay1]
  simp only [hH, hL, hM, word_lane, ← EReal.coe_mul, ← EReal.coe_add, ← EReal.coe_sub, coe_sum, Finset.sum_range]

end Cert.KernelIdeal.Block
-- ==== Proof.BlockRead.lean ====
/-
  The stored block of one grid point, for blocks of real numbers: the loop's two accumulators by induction on
  the trips, then the body's store.
-/
module

public import proofs.«01_k».proof.Proof.KernelBlock

@[expose] public section

set_option maxRecDepth 16384

noncomputable section

namespace Cert.KernelIdeal.Block

open Idealize.ShloMosaic Idealize.ShloMosaic.TcCoe Idealize.SL.Sem
open Idealize.ShloMosaic.Pipeline (Dat)
open Cert.KernelIdeal Cert.KernelIdeal.Gen Cert.Ssim

variable (m : (ℓ : Loc nD τ sig) → Buf (Elt Ideal) ℓ)

/-- The rows that trip `k` loads are the block's rows from `32 k + 24`. -/
theorem tile_rows (x : Vec Ideal S1x1x2048x512 .f32) (u : ℕ → ℕ → ℝ)
    (hx : ∀ (r : Fin 2048) (c : Fin 512), x (ix4 0 0 r c) = ((u r c : ℝ) : EReal)) (k : Fin k0_t1_loop.trips)
    (h : ∀ a, k0_off1 k a + S1x1x48x512.size a ≤ S1x1x2048x512.size a) (r : Fin 48) (c : Fin 512) :
    View.ld x (Rect.unit (k0_off1 k) ![1, 1, 48, 512] h) (ix4 0 0 r c) = ((u (32 * k.val + 24 + r) c : ℝ) : EReal) := by
  revert h
  rw [k0_off1_eq k]
  intro h
  pointwise
  rw [hx]

/-- The rows loaded from row `0`. -/
theorem head_rows (x : Vec Ideal S1x1x2048x512 .f32) (u : ℕ → ℕ → ℝ)
    (hx : ∀ (r : Fin 2048) (c : Fin 512), x (ix4 0 0 r c) = ((u r c : ℝ) : EReal)) (r : Fin 40) (c : Fin 512) :
    View.ld x (Rect.unit ![0, 0, 0, 0] ![1, 1, 40, 512] inb_S1x1x2048x512_S1x1x40x512_0_0_0_0) (ix4 0 0 r c)
      = ((u r c : ℝ) : EReal) := by
  pointwise
  rw [hx]

/-- The rows loaded from row `2008`. -/
theorem tail_rows (x : Vec Ideal S1x1x2048x512 .f32) (u : ℕ → ℕ → ℝ)
    (hx : ∀ (r : Fin 2048) (c : Fin 512), x (ix4 0 0 r c) = ((u r c : ℝ) : EReal)) (r : Fin 40) (c : Fin 512) :
    View.ld x (Rect.unit ![0, 0, 2008, 0] ![1, 1, 40, 512] inb_S1x1x2048x512_S1x1x40x512_0_0_2008_0) (ix4 0 0 r c)
      = ((u (2008 + r) c : ℝ) : EReal) := by
  pointwise
  rw [hx]

/-- The carried pair before trip `n`: the two sums over the `n` tiles done so far. -/
theorem carried (c : Dev nD) (g : grid0.Coords) (arg2 : Memref sig .tc .vmem S1x1x2048x512 .f32) (harg2 : arg2.IsWhole)
    (arg3 : Memref sig .tc .vmem S1x1x2048x512 .f32) (harg3 : arg3.IsWhole) (arg4 : Memref sig .tc .vmem S1x1x128 .f32)
    (harg4 : arg4.IsWhole) (x y : Vec Ideal S1x1x2048x512 .f32) (u v : ℕ → ℕ → ℝ)
    (hx : ∀ (r : Fin 2048) (c : Fin 512), x (ix4 0 0 r c) = ((u r c : ℝ) : EReal))
    (hy : ∀ (r : Fin 2048) (c : Fin 512), y (ix4 0 0 r c) = ((v r c : ℝ) : EReal)) (n : ℕ) (hn : n ≤ k0_t1_loop.trips)
    (i : Fin 32) (l : Fin 512) :
    (st_k0_t1 .none c none g arg2 harg2 arg3 harg3 arg4 harg4 (harg2.unread x) (harg3.unread y)
        (k0_pay15, k0_pay15) n).1 (ix2 i l) = ((∑ k ∈ Finset.range n, core u v (32 * k + i + 31) l : ℝ) : EReal)
      ∧ (st_k0_t1 .none c none g arg2 harg2 arg3 harg3 arg4 harg4 (harg2.unread x) (harg3.unread y)
        (k0_pay15, k0_pay15) n).2 (ix2 i l) = ((∑ k ∈ Finset.range n, pr u v (32 * k + i + 31 + 1) l : ℝ) : EReal) := by
  induction n with
  | zero =>
    rw [st_k0_t1_zero]
    have h : k0_pay15 (F := Ideal) (ix2 i l) = ((0 : ℝ) : EReal) := by pointwise [k0_pay15]; norm_num
    simp only [Finset.range_zero, Finset.sum_empty]
    exact ⟨h, h⟩
  | succ n ih =>
    obtain ⟨h1, h2⟩ := ih (by omega)
    rw [st_k0_t1_succ .none c none g arg2 harg2 arg3 harg3 arg4 harg4 (harg2.unread x) (harg3.unread y)
      (k0_pay15, k0_pay15) ⟨n, hn⟩]
    unfold tripR_k0_t1 trip_k0_t1
    frame_out
    constructor
    · rw [tile_core_apply _ _ _ u v n (tile_rows x u hx ⟨n, hn⟩ _) (tile_rows y v hy ⟨n, hn⟩ _), h1,
        Finset.sum_range_succ, EReal.coe_add]
    · rw [tile_prod_apply _ _ _ u v n (tile_rows x u hx ⟨n, hn⟩ _) (tile_rows y v hy ⟨n, hn⟩ _), h2,
        Finset.sum_range_succ, EReal.coe_add]

/-- The weighted sum of one block's losses. -/
def blockSum (u v : ℕ → ℕ → ℝ) (w : ℕ → ℝ) : ℝ :=
  ∑ c ∈ Finset.range 512, (∑ n ∈ Finset.range 2038, loss u v (n + 4) c) * w c

/-- What grid point `t` stores, on every lane: its block's weighted sum over 128. -/
theorem outs_apply (c : Dev nD) (t : Fin cfg0.N) (u v : ℕ → ℕ → ℝ)
    (hx : ∀ (r : Fin 2048) (l : Fin 512), iblk m c 0 t (ix4 0 0 r l) = ((u r l : ℝ) : EReal))
    (hy : ∀ (r : Fin 2048) (l : Fin 512), iblk m c 1 t (ix4 0 0 r l) = ((v r l : ℝ) : EReal)) (y : S1x1x128.Idx) :
    outsAt0 m c t y = ((blockSum u v (weight (grid0.coords t 1).val) * (1 / 128) : ℝ) : EReal) := by
  unfold outsAt0
  frame_out
  have hm : ∀ l : Fin 512, k0_pay44 (F := Ideal) (BitVec.ofNat 32 (grid0.coords t 1).val) (ix2 0 l)
      = ((weight (grid0.coords t 1).val l : ℝ) : EReal) := fun l => mask_apply (grid0.coords t 1) l
  have hT : Scf.trips (1#32) (Scalar.addi 1#32 62#32) 1#32 = 62 := by decide +kernel
  have hT' : k0_t1_loop.trips = 62 := by decide +kernel
  have hc := fun (i : Fin 32) (l : Fin 512) => carried c (grid0.coords t) (ms0_0 t) (hs0_0 t) (ms0_1 t) (hs0_1 t) (ms0_2 t) (hs0_2 t)
    (iblk m c 0 t) (iblk m c 1 t) u v hx hy 62 (by rw [hT']) i l
  rw [hT]
  rw [stored _ _ _ _ _ (fun i l => loss u v (i + 4) l) (fun i l => loss u v (i + 2015) l) (weight (grid0.coords t 1).val)
    _ _
    (sum_core _ _ (fun i l => ∑ k ∈ Finset.range 62, core u v (32 * k + i + 31) l) _ (fun i l => (hc i l).1) hm)
    (cross _ _ _ _ _ _ (fun i l => ∑ k ∈ Finset.range 62, pr u v (32 * k + i + 31 + 1) l) u v _ (fun i l => (hc i l).2)
      (head_rows _ u hx) (head_rows _ v hy) (tail_rows _ u hx) (tail_rows _ v hy) hm)
    (head_apply _ _ u v (head_rows _ u hx) (head_rows _ v hy))
    (tail_apply _ _ u v (tail_rows _ u hx) (tail_rows _ v hy)) hm]
  rw [block]
  rfl

end Cert.KernelIdeal.Block
-- ==== Proof.KernelValue.lean ====
/-
  What the kernel leaves: the region's array, block by block, and the number that the lines after the region
  compute from it.
-/
module

public import proofs.«01_k».proof.Proof.BlockRead

@[expose] public section

set_option maxRecDepth 16384

noncomputable section

namespace Cert.KernelIdeal.Block

open Idealize.ShloMosaic Idealize.ShloMosaic.TcCoe Idealize.SL.Sem
open Idealize.ShloMosaic.Pipeline (Dat)
open Cert.KernelIdeal Cert.KernelIdeal.Gen Cert.Ssim

variable (m : (ℓ : Loc nD τ sig) → Buf (Elt Ideal) ℓ)

/-- Where the blocks of a grid point lie: image `b`, block column `j`. -/
theorem idx : ∀ t : Fin cfg0.N,
    win0_0.index t = ![(grid0.coords t 0).val, 0, 0, (grid0.coords t 1).val]
      ∧ win0_1.index t = ![(grid0.coords t 0).val, 0, 0, (grid0.coords t 1).val]
      ∧ win0_2.index t = ![(grid0.coords t 0).val, 0, (grid0.coords t 1).val] :=
  (by decide +kernel : ∀ t : Fin grid0.N, _)

/-- The weighted sum of the losses of block column `j` of image `b`. -/
def part (x y : ℕ → ℕ → ℕ → ℝ) (b j : ℕ) : ℝ :=
  blockSum (fun r l => x b r (512 * j + l)) (fun r l => y b r (512 * j + l)) (weight j)

/-- The region's array: lane `l` of image `b` holds its block column's weighted sum over 128. -/
def lanesOf (x y : ℕ → ℕ → ℕ → ℝ) : FVec Ideal S8x1x512 .f32 := fun i =>
  ((part x y (i 0).val ((i 2).val / 128) * (1 / 128) : ℝ) : EReal)

/-- An entry of the argument, by its image, its row, and its column's block and lane. -/
theorem block_read (b : Fin 8) (j : Fin 4) (r : Fin 2048) (l : Fin 512) (A : FVec Ideal S8x1x2048x2048 .f32)
    (x : ℕ → ℕ → ℕ → ℝ) (hx : ∀ (b : Fin 8) (r C : Fin 2048), A (ix4 b 0 r C) = ((x b r C : ℝ) : EReal)) :
    A (ix4 b 0 r ⟨512 * j.val + l.val, by omega⟩) = ((x b r (512 * j + l) : ℝ) : EReal) := hx _ _ _

/-- The lanes of one image add up to the losses of the image. -/
theorem sum_parts (x y : ℕ → ℕ → ℕ → ℝ) (b : ℕ) :
    ∑ l ∈ Finset.range 512, part x y b (l / 128) * (1 / 128)
      = ∑ c ∈ Finset.range 2038, ∑ n ∈ Finset.range 2038, loss (x b) (y b) (n + 4) (c + 5) := by
  rw [lanes (part x y b), ← masked (fun C => ∑ n ∈ Finset.range 2038, loss (x b) (y b) (n + 4) C)]
  rfl

/-- Every block written back is that array's block. -/
theorem final (c : Dev nD) (x y : ℕ → ℕ → ℕ → ℝ)
    (hx : ∀ (b : Fin 8) (r C : Fin 2048), m ((c.tc : Thread nD τ).loc main_arg0) (ix4 b 0 r C) = ((x b r C : ℝ) : EReal))
    (hy : ∀ (b : Fin 8) (r C : Fin 2048), m ((c.tc : Thread nD τ).loc main_arg1) (ix4 b 0 r C) = ((y b r C : ℝ) : EReal)) :
    (dats m 0 c).arrAt 2 (cfgs 0).N = lanesOf x y := by
  refine (dats m 0 c).arrAt_eq_of_covers 2 _ (by decide +kernel) fun t hf z => ?_
  blk_simp
  rw [after0_2]
  obtain ⟨e0, e1, e2⟩ := idx t
  refine (outs_apply m c t (fun r l => x (grid0.coords t 0).val r (512 * (grid0.coords t 1).val + l))
    (fun r l => y (grid0.coords t 0).val r (512 * (grid0.coords t 1).val + l)) ?_ ?_ _).trans ?_
  · intro r l
    rw [← block_read (grid0.coords t 0) (grid0.coords t 1) r l _ x hx]
    blk_ext [iblk, V, idx t]
  · intro r l
    rw [← block_read (grid0.coords t 0) (grid0.coords t 1) r l _ y hy]
    blk_ext [iblk, V, idx t]
  · unfold lanesOf part
    blk_simp [e2]
    have hz : (z 2).val < 128 := (z 2).isLt
    rw [show ((grid0.coords t 1).val * 128 + (z 2).val) / 128 = (grid0.coords t 1).val by omega]

/-- The lines after the region, of that array: its sum over 2038². -/
theorem host_value (x y : ℕ → ℕ → ℕ → ℝ) :
    Host.divf (F := Ideal) (Host.reduceAdd (lanesOf x y) (constant S_ .f32 0x00000000#32) reducesTo_S8x1x512_S_d0_1_2 h_S_)
      (mulf (constant S_ .f32 0x44FEC000#32) (constant S_ .f32 0x44FEC000#32))
      = fun _ => ((total x y / 4153444 : ℝ) : EReal) := by
  funext i
  pointwise
  have e : ∀ (b : Fin 8) (o : Fin 1) (l : Fin 512), lanesOf x y (ix3 b o l)
      = ((part x y b (l / 128) * (1 / 128) : ℝ) : EReal) := fun _ _ _ => rfl
  have s : ∑ b : Fin 8, ∑ l : Fin 512, part x y b (l / 128) * (1 / 128) = total x y := by
    unfold total
    rw [Finset.sum_range]
    refine Finset.sum_congr rfl fun b _ => ?_
    rw [← sum_parts, Finset.sum_range]
  simp only [e, word_side, ← EReal.coe_mul, Finset.univ_unique, Finset.sum_singleton, coe_sum]
  rw [div_real _ _ (by norm_num), s]
  norm_num

/-- The number that the lines after the region leave: the mean over each image's pixels, added over the images. -/
theorem tail_value (c : Dev nD) (x y : ℕ → ℕ → ℕ → ℝ)
    (hx : ∀ (b : Fin 8) (r C : Fin 2048), m ((c.tc : Thread nD τ).loc main_arg0) (ix4 b 0 r C) = ((x b r C : ℝ) : EReal))
    (hy : ∀ (b : Fin 8) (r C : Fin 2048), m ((c.tc : Thread nD τ).loc main_arg1) (ix4 b 0 r C) = ((y b r C : ℝ) : EReal)) :
    Pipeline.afterTail₀ cfgs (dats m) 0 (V0 m) [hostOps1] c main_v3 = fun _ => ((total x y / 4153444 : ℝ) : EReal) := by
  have hv : Pipeline.withArrays (cfgs 0).spec c (V0 m c) (fun w => (dats m 0 c).arrAt w (cfgs 0).N)
      (Proc.devRef .tc main_v0) = lanesOf x y :=
    (Pipeline.withArrays_arr (cfgs 0).spec (by decide) c (V0 m c) _ 2).trans (final m c x y hx hy)
  unfold Pipeline.afterTail₀
  generalize Pipeline.withArrays (cfgs 0).spec c (V0 m c) (fun w => (dats m 0 c).arrAt w (cfgs 0).N) = E at hv ⊢
  show StableHlo.after hostOps1 E (Proc.devRef .tc main_v3) = _
  after_results
  rw [hv, host_value]
  rfl

end Cert.KernelIdeal.Block
-- ==== Proof.RefValue.lean ====
/-
  What the reference computes, over real numbers: the filter at a pixel, and from it the result.
-/
module

public import proofs.«01_k».proof.Proof.Words
public import proofs.«01_k».proof.Proof.Gen.ReferenceIdeal.Read
public import Idealize.ShloMosaic.Lib.Pointwise

@[expose] public section

set_option maxRecDepth 16384

noncomputable section

namespace Cert.ReferenceIdeal.Filter

open Idealize.ShloMosaic Idealize.ShloMosaic.TcCoe Idealize.SL.Sem
open Cert.ReferenceIdeal Cert.ReferenceIdeal.Gen Cert.ReferenceIdeal.Read Cert.Ssim

/-- The padded image is zero outside its middle channel. -/
theorem padded_out (x : FVec Ideal S8x1x2048x2048 .f32) (b : Fin 8) (a : Fin 3) (h : Fin 2050) (c : Fin 2048)
    (ha : a ≠ 1) : val_main_v0 (F := Ideal) x (ix4 b a h c) = 0 := by
  pointwise [val_main_v0, val_main_call0_v0, val_main_c]
  rw [dif_neg (by rintro ⟨⟨h1, h2⟩, -⟩; exact ha (Fin.ext (by show a.val = 1; omega)))]
  show (((0#32 : BitVec 32).toInt : ℝ) : EReal) = 0
  norm_num

/-- The padded image holds, in its middle channel, the image one row further down. -/
theorem padded_mid (x : FVec Ideal S8x1x2048x2048 .f32) (b : Fin 8) (h : Fin 2050) (c : Fin 2048) (r : Fin 2048)
    (hr : h.val = r.val + 1) : val_main_v0 (F := Ideal) x (ix4 b 1 h c) = x (ix4 b 0 r c) := by
  pointwise [val_main_v0, val_main_call0_v0, val_main_c]
  have hr' := r.isLt
  rw [dif_pos (by refine ⟨?_, ?_⟩ <;> omega)]
  congr 2
  exact Fin.ext (by show h.val - 1 = r.val; omega)

/-- The reference's filter at a pixel: the mean of three rows of the image. -/
theorem filter (x : FVec Ideal S8x1x2048x2048 .f32) (u : ℕ → ℕ → ℕ → ℝ)
    (hx : ∀ (b : Fin 8) (r C : Fin 2048), x (ix4 b 0 r C) = ((u b r C : ℝ) : EReal)) (b : Fin 8) (r c : Fin 2038) :
    val_main_v39 (F := Ideal) x (ix3 b r c) = ((mean (u b) (r + 4) (c + 5) : ℝ) : EReal) := by
  pointwise [val_main_v1, val_main_v2, val_main_v3, val_main_v4, val_main_v5, val_main_v6, val_main_v7, val_main_v8,
    val_main_v9, val_main_v10, val_main_v11, val_main_v12, val_main_v13, val_main_v14, val_main_v15,
    val_main_v16, val_main_v17, val_main_v18, val_main_v19, val_main_v20, val_main_v21, val_main_v22,
    val_main_v23, val_main_v24, val_main_v25, val_main_v26, val_main_v27, val_main_v28, val_main_v29,
    val_main_v30, val_main_v31, val_main_v32, val_main_v33, val_main_v34, val_main_v35, val_main_v36,
    val_main_v37, val_main_v38, val_main_v39, val_main_cst, val_main_cst_0, val_main_cst_1, val_main_cst_2,
    val_main_cst_3, val_main_cst_4, val_main_cst_5, val_main_cst_6, val_main_cst_7, val_main_cst_8]
  have hr := r.isLt
  have hc := c.isLt
  have hmid : ∀ (d : ℕ) (hd : d ≤ 2) (h : d + (5 + r.val) < 2050) (q : 5 + c.val < 2048),
      val_main_v0 (F := Ideal) x (ix4 b 1 ⟨d + (5 + r.val), h⟩ ⟨5 + c.val, q⟩)
        = ((u b (r + 4 + d) (c + 5) : ℝ) : EReal) := by
    intro d hd h q
    rw [padded_mid x b _ _ ⟨r.val + 4 + d, by omega⟩ (by show d + (5 + r.val) = r.val + 4 + d + 1; omega), hx]
    show ((u b (r + 4 + d) (5 + c) : ℝ) : EReal) = _
    rw [Nat.add_comm 5]
  have h0 := hmid 0 (by omega) (by omega) (by omega)
  simp only [Nat.zero_add, Nat.add_zero] at h0
  rw [h0, hmid 1 (by omega), hmid 2 (by omega)]
  simp only [padded_out x b 0 _ _ (by decide), padded_out x b 2 _ _ (by decide), mul_zero, zero_add, add_zero,
    word_k0, word_k1, ← EReal.coe_mul, ← EReal.coe_add]
  congr 1
  simp only [mean, Nat.add_assoc]
  ring

/-- The second image goes through the same filter. -/
theorem v79 (Y : FVec Ideal S8x1x2048x2048 .f32) : val_main_v79 (F := Ideal) Y = val_main_v39 (F := Ideal) Y := rfl

/-- So does the square of the first image. -/
theorem v120 (X : FVec Ideal S8x1x2048x2048 .f32) : val_main_v120 (F := Ideal) X = val_main_v39 (F := Ideal) (mulf X X) := rfl

/-- So does the square of the second. -/
theorem v163 (Y : FVec Ideal S8x1x2048x2048 .f32) : val_main_v163 (F := Ideal) Y = val_main_v39 (F := Ideal) (mulf Y Y) := rfl

/-- So does the product of the two. -/
theorem v206 (X Y : FVec Ideal S8x1x2048x2048 .f32) : val_main_v206 (F := Ideal) X Y = val_main_v39 (F := Ideal) (mulf X Y) := rfl

variable (X Y : FVec Ideal S8x1x2048x2048 .f32) (x y : ℕ → ℕ → ℕ → ℝ)
  (hx : ∀ (b : Fin 8) (r C : Fin 2048), X (ix4 b 0 r C) = ((x b r C : ℝ) : EReal))
  (hy : ∀ (b : Fin 8) (r C : Fin 2048), Y (ix4 b 0 r C) = ((y b r C : ℝ) : EReal))

omit hx hy in
/-- The product of two real images is the real image of the products. -/
theorem product (X Y : FVec Ideal S8x1x2048x2048 .f32) (x y : ℕ → ℕ → ℕ → ℝ)
    (hx : ∀ (b : Fin 8) (r C : Fin 2048), X (ix4 b 0 r C) = ((x b r C : ℝ) : EReal))
    (hy : ∀ (b : Fin 8) (r C : Fin 2048), Y (ix4 b 0 r C) = ((y b r C : ℝ) : EReal)) (b : Fin 8) (r C : Fin 2048) :
    mulf (F := Ideal) X Y (ix4 b 0 r C) = ((pr (x b) (y b) r C : ℝ) : EReal) := by
  show X (ix4 b 0 r C) * Y (ix4 b 0 r C) = _
  rw [hx, hy, ← EReal.coe_mul]
  rfl

include hx hy in
/-- The reference's image of losses. -/
theorem losses (b : Fin 8) (r c : Fin 2038) :
    val_main_v212 (F := Ideal) X Y (ix3 b r c) = ((loss (x b) (y b) (r + 4) (c + 5) : ℝ) : EReal) := by
  have m1 := filter X x hx b r c
  have m2 := filter Y y hy b r c
  have p11 := filter (mulf X X) (fun b => pr (x b) (x b)) (product X X x x hx hx) b r c
  have p22 := filter (mulf Y Y) (fun b => pr (y b) (y b)) (product Y Y y y hy hy) b r c
  have p12 := filter (mulf X Y) (fun b => pr (x b) (y b)) (product X Y x y hx hy) b r c
  have two : val_main_v210 (F := Ideal) (ix3 b r c) = ((2 : ℝ) : EReal) := by
    rw [val_main_v210_apply, ← word_two]
    rfl
  rw [val_main_v212_apply, val_main_v211_apply, val_main_v209_apply, val_main_v208_apply, val_main_v207_apply,
    val_main_v165_apply, val_main_v164_apply, val_main_v122_apply, val_main_v121_apply, two]
  rw [v79, v120, v163, v206, m1, m2, p11, p22, p12]
  simp only [Ideal.mulf_def, Ideal.subf_def, ← EReal.coe_mul, ← EReal.coe_sub, loss, cov]

include hx hy in
/-- The reference's sum over one image. -/
theorem image_sum (b : Fin 8) :
    val_main_v213 (F := Ideal) X Y (ix1 b)
      = ((∑ c ∈ Finset.range 2038, ∑ r ∈ Finset.range 2038, loss (x b) (y b) (r + 4) (c + 5) : ℝ) : EReal) := by
  unfold val_main_v213
  pointwise [val_main_cst_54]
  simp only [losses X Y x y hx hy, coe_sum]
  rw [Finset.sum_comm, Finset.sum_range]
  simp only [Finset.sum_range]

include hx hy in
/-- The reference's result: the mean over each image's pixels, added over the images. -/
theorem result : val_main_v216 (F := Ideal) X Y = fun _ => ((total x y / 4153444 : ℝ) : EReal) := by
  have d : ∀ b : Fin 8, val_main_v215 (F := Ideal) X Y (ix1 b)
      = (((∑ c ∈ Finset.range 2038, ∑ r ∈ Finset.range 2038, loss (x b) (y b) (r + 4) (c + 5)) / 4153444 : ℝ) : EReal) := by
    intro b
    pointwise [val_main_v215, val_main_v214, val_main_cst_55]
    rw [image_sum X Y x y hx hy b, word_area, div_real _ _ (by norm_num)]
  funext i
  pointwise [val_main_v216, val_main_cst_56]
  simp only [d, coe_sum]
  rw [← Finset.sum_div, total, Finset.sum_range]

end Cert.ReferenceIdeal.Filter
-- ==== Proof.Finite.lean ====
/-
  What the precondition says: every element of the two arguments is a real number.
-/
module

public import proofs.«01_k».proof.Proof.Gen.Pre_finite
public import Idealize.ShloMosaic.Lib.ReduceAll
public import Idealize.ShloMosaic.Lib.Pointwise
public import Idealize.ShloMosaic.PureOps.Ideal.Laws

@[expose] public section

set_option maxRecDepth 16384

noncomputable section

namespace Cert.Ssim

open Idealize.ShloMosaic Idealize.SL.Sem Cert.Pre_finite Cert.Pre_finite.Facts

/-- The reals of an argument: its image `b` at a row and a column. -/
def image (X : FVec Ideal S8x1x2048x2048 .f32) (b r c : ℕ) : ℝ :=
  EReal.toReal (X (ix4 (Fin.ofNat 8 b) 0 (Fin.ofNat 2048 r) (Fin.ofNat 2048 c)))

/-- An extended real whose size lies below infinity is a real number. -/
theorem coe_of_size (a : EReal) (h : max a (-a) < ⊤) : a = ((a.toReal : ℝ) : EReal) := by
  refine (EReal.coe_toReal ?_ ?_).symm
  · rintro rfl
    simp at h
  · rintro rfl
    simp at h

/-- An array all of whose elements pass the test against infinity holds real numbers. -/
theorem real_of_test (X : FVec Ideal S8x1x2048x2048 .f32)
    (h : Host.reduce IntOp.andi (cmpf .olt (Host.absf X) (broadcastInDim S8x1x2048x2048 ![] bcast_S_S8x1x2048x2048
      (constant (F := Ideal) S_ .f32 0x7F800000#32))) (constantI S_ 1 1#1) reducesTo_S8x1x2048x2048_S_d0_1_2_3 h_S_ = fun _ => 1#1)
    (b : Fin 8) (r C : Fin 2048) : X (ix4 b 0 r C) = ((image X b r C : ℝ) : EReal) := by
  have e := Host.reduce_andi_all _ _ _ _ _ (congrFun h (Shape.Idx.first h_S_)) (ix4 b 0 r C)
  have top : Ideal.ofBits .f32 0x7F800000#32 = ⊤ := by simp [Ideal.ofBits, Ideal.ieee]
  have l : max (X (ix4 b 0 r C)) (-X (ix4 b 0 r C)) < (⊤ : EReal) := by
    rw [← top]
    pointwise at e
    by_contra n
    have z : decide (FloatOps.absf (X (ix4 b 0 r C)) < Ideal.ofBits .f32 0x7F800000#32) = false := decide_eq_false n
    rw [z] at e
    exact absurd e (by decide)
  rw [image, Fin.ofNat_val_eq_self, Fin.ofNat_val_eq_self, Fin.ofNat_val_eq_self]
  exact coe_of_size _ l

/-- Under the precondition both arguments hold real numbers. -/
theorem real_of_finite (X Y : FVec Ideal S8x1x2048x2048 .f32) (h : Cert.Pre_finite.fn (F := Ideal) X Y = fun _ => 1#1) :
    (∀ (b : Fin 8) (r C : Fin 2048), X (ix4 b 0 r C) = ((image X b r C : ℝ) : EReal))
      ∧ ∀ (b : Fin 8) (r C : Fin 2048), Y (ix4 b 0 r C) = ((image Y b r C : ℝ) : EReal) :=
  ⟨real_of_test X (funext fun i => (IntOp.andi_eq_one.1 (congrFun h i)).1),
    real_of_test Y (funext fun i => (IntOp.andi_eq_one.1 (congrFun h i)).2)⟩

end Cert.Ssim
-- ==== Proof.lean ====
/-
  The proof of `Cert.Claim`.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.KernelValue
public import proofs.«01_k».proof.Proof.RefValue
public import proofs.«01_k».proof.Proof.Finite
public import Idealize.ShloMosaic.Adequacy
public import Idealize.ShloMosaic.Init
public import Idealize.ShloMosaic.Lib.Tactic
public import Idealize.ShloMosaic.Lib.Claim
public import Idealize.ShloMosaic.Lib.Quiescent

@[expose] public section

set_option maxRecDepth 16384

noncomputable section

namespace Cert.Proof

open Idealize.ShloMosaic Idealize.SL.Sem Cert.Kernel

/-- The kernel's number is the reference's, for every pair of arguments that hold real numbers. -/
theorem algebraic : Cert.algebraic_KernelIdeal_ReferenceIdeal_pre_finite := by
  pair_intro
  · run_from Cert.KernelIdeal.Gen.run_main m g
  · run_from Cert.ReferenceIdeal.Value.run m' g'
    obtain ⟨hx, hy⟩ := Cert.Ssim.real_of_finite _ _ (hpre c)
    refine (Cert.ReferenceIdeal.Read.val_main_v216_eq (StableHlo.launchContents m' c)).trans ?_
    rw [StableHlo.launchContents_devRef, StableHlo.launchContents_devRef, (hagree c).1, (hagree c).2]
    exact (Cert.ReferenceIdeal.Filter.result _ _ _ _ hx hy).trans
      (Cert.KernelIdeal.Block.tail_value m c _ _ hx hy).symm

/-- The reference runs from every memory, and leaves its arguments as they were. -/
theorem reference_frame : Cert.quiescent_ReferenceIdeal := by
  intro m g _
  exact (θ_run _ _ _).mono (fun r h => ⟨fun c => (h c).2, sem_eq_zero_of_no_sems (by decide) r.2⟩)
    (Cert.ReferenceIdeal.Value.run m g)

/-- So it does from the memories of which the precondition holds. -/
theorem reference_frame_finite : Cert.quiescent_ReferenceIdeal_pre_finite :=
  fun m g _ => reference_frame m g trivial

/-- All the claims. -/
theorem claim : Cert.Claim := ⟨Cert.Kernel.Gen.facts, Cert.KernelIdeal.Gen.facts, Cert.ReferenceIdeal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  reference_frame,
  reference_frame_finite,
  trivial,
  algebraic⟩

end Cert.Proof

end
